-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x128x256x256x2 : Shape := ⟨5, ![8, 128, 256, 256, 2]⟩
abbrev S128x128 : Shape := ⟨2, ![128, 128]⟩
abbrev S128 : Shape := ⟨1, ![128]⟩
abbrev S8x128x131072 : Shape := ⟨3, ![8, 128, 131072]⟩
abbrev S128x256 : Shape := ⟨2, ![128, 256]⟩
abbrev S128x1 : Shape := ⟨2, ![128, 1]⟩
abbrev S1x128x8192 : Shape := ⟨3, ![1, 128, 8192]⟩
abbrev S128x8192 : Shape := ⟨2, ![128, 8192]⟩
abbrev S128x8191 : Shape := ⟨2, ![128, 8191]⟩
abbrev S256x8192 : Shape := ⟨2, ![256, 8192]⟩

abbrev nBuf : Space → Nat
  | .hbm => 11
  | .vmem => 7
  | .smem => 0
  | _ => 0

abbrev bufTy : (tb : Table) → Fin (tcTables nBuf tb) → BufTy
  | .hbm, ⟨0, _⟩ => ⟨S8x128x256x256x2, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S8x128x131072, .f32⟩
  | .hbm, ⟨6, _⟩ => ⟨S128x256, .f32⟩
  | .hbm, ⟨7, _⟩ => ⟨S128x1, .f32⟩
  | .hbm, ⟨8, _⟩ => ⟨S128x1, .f32⟩
  | .hbm, ⟨9, _⟩ => ⟨S8x128x131072, .f32⟩
  | .hbm, ⟨10, _⟩ => ⟨S8x128x256x256x2, .f32⟩
  | .local _ .vmem, ⟨0, _⟩ => ⟨S1x128x8192, .f32⟩
  | .local _ .vmem, ⟨1, _⟩ => ⟨S1x128x8192, .f32⟩
  | .local _ .vmem, ⟨2, _⟩ => ⟨S128x256, .f32⟩
  | .local _ .vmem, ⟨3, _⟩ => ⟨S128x1, .f32⟩
  | .local _ .vmem, ⟨4, _⟩ => ⟨S128x1, .f32⟩
  | .local _ .vmem, ⟨5, _⟩ => ⟨S1x128x8192, .f32⟩
  | .local _ .vmem, ⟨6, _⟩ => ⟨S1x128x8192, .f32⟩
  | _, _ => ⟨S8x128x256x256x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S1x128x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x128x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S8x128x256x256x2 : Shape := ⟨5, ![8, 128, 256, 256, 2]⟩
abbrev S128x128 : Shape := ⟨2, ![128, 128]⟩
abbrev S128 : Shape := ⟨1, ![128]⟩
abbrev S8x128x256x256x1 : Shape := ⟨5, ![8, 128, 256, 256, 1]⟩
abbrev S8x128x256x256 : Shape := ⟨4, ![8, 128, 256, 256]⟩
abbrev S128x8x256x256 : Shape := ⟨4, ![128, 8, 256, 256]⟩
abbrev S1x128x1x1 : Shape := ⟨4, ![1, 128, 1, 1]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8x128x256x256x2, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S8x128x256x256x1, .f32⟩
  | .hbm, ⟨6, _⟩ => ⟨S8x128x256x256, .f32⟩
  | .hbm, ⟨7, _⟩ => ⟨S8x128x256x256x1, .f32⟩
  | .hbm, ⟨8, _⟩ => ⟨S8x128x256x256, .f32⟩
  | .hbm, ⟨9, _⟩ => ⟨S128x8x256x256, .f32⟩
  | .hbm, ⟨10, _⟩ => ⟨S8x128x256x256, .f32⟩
  | .hbm, ⟨11, _⟩ => ⟨S1x128x1x1, .f32⟩
  | .hbm, ⟨12, _⟩ => ⟨S8x128x256x256, .f32⟩
  | .hbm, ⟨13, _⟩ => ⟨S8x128x256x256, .f32⟩
  | .hbm, ⟨14, _⟩ => ⟨S_, .f32⟩
  | .hbm, ⟨15, _⟩ => ⟨S8x128x256x256, .f32⟩
  | .hbm, ⟨16, _⟩ => ⟨S8x128x256x256, .f32⟩
  | .hbm, ⟨17, _⟩ => ⟨S8x128x256x256x1, .f32⟩
  | .hbm, ⟨18, _⟩ => ⟨S8x128x256x256x1, .f32⟩
  | .hbm, ⟨19, _⟩ => ⟨S8x128x256x256x1, .f32⟩
  | .hbm, ⟨20, _⟩ => ⟨S_, .f32⟩
  | .hbm, ⟨21, _⟩ => ⟨S8x128x256x256, .f32⟩
  | .hbm, ⟨22, _⟩ => ⟨S8x128x256x256x1, .f32⟩
  | .hbm, ⟨23, _⟩ => ⟨S_, .f32⟩
  | .hbm, ⟨24, _⟩ => ⟨S8x128x256x256, .f32⟩
  | .hbm, ⟨25, _⟩ => ⟨S_, .f32⟩
  | .hbm, ⟨26, _⟩ => ⟨S8x128x256x256, .f32⟩
  | .hbm, ⟨27, _⟩ => ⟨S8x128x256x256, .f32⟩
  | .hbm, ⟨28, _⟩ => ⟨S8x128x256x256, .f32⟩
  | .hbm, ⟨29, _⟩ => ⟨S128x8x256x256, .f32⟩
  | .hbm, ⟨30, _⟩ => ⟨S8x128x256x256, .f32⟩
  | .hbm, ⟨31, _⟩ => ⟨S1x128x1x1, .f32⟩
  | .hbm, ⟨32, _⟩ => ⟨S8x128x256x256, .f32⟩
  | .hbm, ⟨33, _⟩ => ⟨S8x128x256x256, .f32⟩
  | .hbm, ⟨34, _⟩ => ⟨S8x128x256x256x1, .f32⟩
  | .hbm, ⟨35, _⟩ => ⟨S8x128x256x256x1, .f32⟩
  | .hbm, ⟨36, _⟩ => ⟨S8x128x256x256x2, .f32⟩
  | _, _ => ⟨S8x128x256x256x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_call0_cst : Ref sig .tc := ⟨.hbm, 14, rfl⟩
abbrev main_call0_v0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== Proof.Layer.lean ====
/- The layer's mathematics over the extended reals, free of both programs: a pair of channels (activator, carry) per
   pixel, each sent through its own 1×1 convolution. -/
module

public import Idealize.ShloMosaic.Lib.Pointwise

@[expose] public section

noncomputable section

namespace Cert.Layer

open Idealize.ShloMosaic

/-- The small number that keeps the denominator away from zero: the value of the float word nearest to 1e-6. -/
def eps : EReal := Ideal.ofBits FTy.f32 0x358637BD#32

/-- What one pixel derives from its activator value `a` and its carry value `y`: the product over `|a| + eps`. -/
def derived (a y : EReal) : EReal := Ideal.div (a * y) (FloatOps.absf (F := Ideal) (φ := .f32) a + eps)

/-- The activator branch at output channel `o`, `a` being the pixel's activator values by input channel: the weighted
    sum and the bias, cut off below zero. -/
def activator (wx : FVec Ideal ⟨2, ![128, 128]⟩ .f32) (bx : FVec Ideal ⟨1, ![128]⟩ .f32) (a : Fin 128 → EReal)
    (o : Fin 128) : EReal :=
  max ((∑ c : Fin 128, wx (ix2 o c) * a c) + bx (ix1 o)) 0

/-- The carry branch at output channel `o`, `a` and `y` being the pixel's activator and carry values by input channel:
    the weighted sum of what the channels derive, and the bias. -/
def carry (wy : FVec Ideal ⟨2, ![128, 128]⟩ .f32) (yb : FVec Ideal ⟨1, ![128]⟩ .f32) (a y : Fin 128 → EReal)
    (o : Fin 128) : EReal :=
  (∑ c : Fin 128, wy (ix2 o c) * derived (a c) (y c)) + yb (ix1 o)

/-- The layer's output at batch `b`, channel `o`, pixel `(h, w)` and branch `k`. -/
def out (x : FVec Ideal ⟨5, ![8, 128, 256, 256, 2]⟩ .f32) (wx : FVec Ideal ⟨2, ![128, 128]⟩ .f32)
    (bx : FVec Ideal ⟨1, ![128]⟩ .f32) (wy : FVec Ideal ⟨2, ![128, 128]⟩ .f32) (yb : FVec Ideal ⟨1, ![128]⟩ .f32)
    (b : Fin 8) (o : Fin 128) (h w : Fin 256) (k : Fin 2) : EReal :=
  if k = 0 then activator wx bx (fun c => x (ix5 b c h w 0)) o
  else carry wy yb (fun c => x (ix5 b c h w 0)) (fun c => x (ix5 b c h w 1)) o

/-- The parity test on a lane number, as a word: the lowest bit of `n` is clear exactly when `n` is even. -/
theorem parity_word (n : ℕ) :
    IntOp.cmpi CmpIPredicate.eq (IntOp.andi (BitVec.ofNat 32 n) 1#32) 0#32 = BitVec.ofBool (decide (n % 2 = 0)) := by
  have key : (BitVec.ofNat 32 n &&& 1#32 == 0#32) = decide (n % 2 = 0) := by
    rw [Bool.eq_iff_iff, beq_iff_eq, decide_eq_true_eq, ← BitVec.toNat_inj]
    simp only [BitVec.toNat_and, BitVec.toNat_ofNat, Nat.reducePow, Nat.reduceMod, Nat.and_one_is_mod]
    omega
  exact congrArg BitVec.ofBool key

/-- Choosing by the parity test: an even lane takes the first value. -/
theorem select_even {n : ℕ} (h : n % 2 = 0) {α : Type} (a b : α) :
    Scalar.select (IntOp.cmpi CmpIPredicate.eq (IntOp.andi (BitVec.ofNat 32 n) 1#32) 0#32) a b = a := by
  rw [parity_word, h]; rfl

/-- Choosing by the parity test: an odd lane takes the second value. -/
theorem select_odd {n : ℕ} (h : n % 2 = 1) {α : Type} (a b : α) :
    Scalar.select (IntOp.cmpi CmpIPredicate.eq (IntOp.andi (BitVec.ofNat 32 n) 1#32) 0#32) a b = b := by
  rw [parity_word, h]; rfl

end Cert.Layer

end
-- ==== Proof.Block.lean ====
/- What one block of the kernel computes: the body's arithmetic read at one element of the block it stores. Even lanes
   of a row hold a pixel's activator value and odd lanes the carry value of the same pixel. -/
module

public import proofs.«01_k».proof.Proof.Gen.KernelIdeal.Skeleton
public import proofs.«01_k».proof.Proof.Layer

@[expose] public section

set_option maxRecDepth 16384

noncomputable section

namespace Cert.KernelIdeal.Block

open Idealize.ShloMosaic Cert.KernelIdeal Cert.KernelIdeal.Gen

variable (w : Vec Ideal S128x256 .f32) (p q : Vec Ideal S128x1 .f32) (x : Vec Ideal S1x128x8192 .f32)

/-- On an even lane the carry half of the stacked operand is zero, and the product is the activator's: the first 128
    weights against the lane's own column, the first bias, cut off below zero. -/
theorem even_lane (o : Fin 128) (l : Fin 8192) (hl : l.val % 2 = 0) :
    k0_pay1 (k0_pay2 w p q x) (ix3 0 o l)
      = max ((∑ c : Fin 128, w (ix2 o ⟨c.val, by omega⟩) * x (ix3 0 c l)) + p (ix2 o 0)) 0 := by
  pointwise [k0_pay1, k0_pay2]
  simp only [Layer.select_even hl, Finset.sum_const_zero, add_zero]

/-- On an odd lane the activator half is zero, and the product is the carry's: the last 128 weights against what the
    lane and its left neighbour derive, and the second bias. -/
theorem odd_lane (o : Fin 128) (l : Fin 8192) (hl : l.val % 2 = 1) :
    k0_pay1 (k0_pay2 w p q x) (ix3 0 o l)
      = (∑ c : Fin 128, w (ix2 o ⟨128 + c.val, by omega⟩)
          * Layer.derived (x (ix3 0 c ⟨l.val - 1, by omega⟩)) (x (ix3 0 c l))) + q (ix2 o 0) := by
  have h1 : ¬ l.val < 1 := by omega
  pointwise [k0_pay1, k0_pay2]
  simp only [Layer.select_odd hl, h1, ↓reduceDIte, Layer.derived, Layer.eps, Finset.sum_const_zero, zero_add]

end Cert.KernelIdeal.Block

end
-- ==== Proof.Array.lean ====
/- The kernel's output array when the region has run: the layer's output, laid out in rows of 131072 lanes. -/
module

public import proofs.«01_k».proof.Proof.Gen.KernelIdeal.Frame
public import proofs.«01_k».proof.Proof.Block
public import Idealize.ShloMosaic.Lib.Pipeline.ValueKit

@[expose] public section

set_option maxRecDepth 16384

noncomputable section

namespace Cert.KernelIdeal.Array

open Idealize.ShloMosaic Idealize.ShloMosaic.TcCoe Idealize.SL.Sem Cert.KernelIdeal Cert.KernelIdeal.Gen

variable (m : (ℓ : Loc nD τ sig) → Buf (Elt Ideal) ℓ) (c : Dev nD)

/-- Where each window's block lies at grid point `t`: the data's at batch `t / 16` and lane tile `t % 16`, input and
    output alike; the weights and the biases whole. -/
theorem idx : ∀ t : Fin cfg0.N, win0_0.index t = ![t.val / 16, 0, t.val % 16] ∧ win0_1.index t = ![0, 0]
    ∧ win0_2.index t = ![0, 0] ∧ win0_3.index t = ![0, 0] ∧ win0_4.index t = ![t.val / 16, 0, t.val % 16] :=
  (by decide +kernel : ∀ t : Fin grid0.N, _)

/-- The layer's output on the launched arguments. -/
def layer (b : Fin 8) (o : Fin 128) (h w : Fin 256) (k : Fin 2) : EReal :=
  Layer.out (m (c, Proc.devRef .tc main_arg0)) (m (c, Proc.devRef .tc main_arg1)) (m (c, Proc.devRef .tc main_arg2))
    (m (c, Proc.devRef .tc main_arg3)) (m (c, Proc.devRef .tc main_arg4)) b o h w k

/-- The same output with image rows, pixels and branches laid out along one axis. -/
def flat : FVec Ideal S8x128x131072 .f32 := fun j =>
  layer m c (j 0) (j 1) ⟨(j 2).val / 512, by have : (j 2).val < 131072 := (j 2).isLt; omega⟩
    ⟨(j 2).val / 2 % 256, by omega⟩ ⟨(j 2).val % 2, by omega⟩

/-- The region finds the data with image rows, pixels and branches laid out along one axis. -/
theorem entry_data : V m c main_v0
    = shapeCast S8x128x131072 (m (c, Proc.devRef .tc main_arg0) : FVec Ideal S8x128x256x256x2 .f32)
        shapeCasts_S8x128x256x256x2_S8x128x131072 := by
  simp only [V, V0, hostOps0, List.flatten_cons, List.flatten_nil, List.append_nil, List.cons_append, List.nil_append]
  after_results
  rfl

/-- The region finds the two weight matrices side by side. -/
theorem entry_weights : V m c main_v1
    = concatenate S128x256 1 [⟨S128x128, (m (c, Proc.devRef .tc main_arg1) : FVec Ideal S128x128 .f32)⟩,
        ⟨S128x128, (m (c, Proc.devRef .tc main_arg3) : FVec Ideal S128x128 .f32)⟩]
        concatenates_S128x128_S128x128_S128x256_d1 := by
  simp only [V, V0, hostOps0, List.flatten_cons, List.flatten_nil, List.append_nil, List.cons_append, List.nil_append]
  after_results

/-- The region finds the activator's bias as a column. -/
theorem entry_bias_left : V m c main_v2
    = shapeCast S128x1 (m (c, Proc.devRef .tc main_arg2) : FVec Ideal S128 .f32) shapeCasts_S128_S128x1 := by
  simp only [V, V0, hostOps0, List.flatten_cons, List.flatten_nil, List.append_nil, List.cons_append, List.nil_append]
  after_results
  rfl

/-- The region finds the carry's bias as a column. -/
theorem entry_bias_right : V m c main_v3
    = shapeCast S128x1 (m (c, Proc.devRef .tc main_arg4) : FVec Ideal S128 .f32) shapeCasts_S128_S128x1 := by
  simp only [V, V0, hostOps0, List.flatten_cons, List.flatten_nil, List.append_nil, List.cons_append, List.nil_append]
  after_results
  rfl

/-- The laid-out data at a batch, a channel and a lane. -/
theorem data_at (b : Fin 8) (k : Fin 128) (n : Fin 131072) :
    (V m c main_v0 : FVec Ideal S8x128x131072 .f32) (ix3 b k n)
      = (m (c, Proc.devRef .tc main_arg0) : FVec Ideal S8x128x256x256x2 .f32)
          (ix5 b k ⟨n.val / 512, by omega⟩ ⟨n.val / 2 % 256, by omega⟩ ⟨n.val % 2, by omega⟩) := by
  rw [entry_data]
  pointwise

/-- The weights side by side, at a column of the left half. -/
theorem weights_at_left (o k : Fin 128) :
    (V m c main_v1 : FVec Ideal S128x256 .f32) (ix2 o ⟨k.val, by omega⟩)
      = (m (c, Proc.devRef .tc main_arg1) : FVec Ideal S128x128 .f32) (ix2 o k) := by
  rw [entry_weights]
  pointwise

/-- The weights side by side, at a column of the right half. -/
theorem weights_at_right (o k : Fin 128) :
    (V m c main_v1 : FVec Ideal S128x256 .f32) (ix2 o ⟨128 + k.val, by omega⟩)
      = (m (c, Proc.devRef .tc main_arg3) : FVec Ideal S128x128 .f32) (ix2 o k) := by
  rw [entry_weights]
  pointwise

/-- The activator's bias column at a channel. -/
theorem bias_left_at (o : Fin 128) :
    (V m c main_v2 : FVec Ideal S128x1 .f32) (ix2 o 0) = (m (c, Proc.devRef .tc main_arg2) : FVec Ideal S128 .f32) (ix1 o) := by
  rw [entry_bias_left]
  pointwise

/-- The carry's bias column at a channel. -/
theorem bias_right_at (o : Fin 128) :
    (V m c main_v3 : FVec Ideal S128x1 .f32) (ix2 o 0) = (m (c, Proc.devRef .tc main_arg4) : FVec Ideal S128 .f32) (ix1 o) := by
  rw [entry_bias_right]
  pointwise

/-- The data block at grid point `t` holds batch `t / 16` at lanes `8192 * (t % 16)` and on. -/
theorem data_block (t : Fin cfg0.N) (z : Fin 1) (k : Fin 128) (l : Fin 8192) :
    (iblk m c 0 t : Vec Ideal S1x128x8192 .f32) (ix3 z k l)
      = (V m c main_v0 : FVec Ideal S8x128x131072 .f32)
        (ix3 ⟨t.val / 16, by have := t.isLt; have : cfg0.N = 128 := N_0; omega⟩ k
          ⟨t.val % 16 * 8192 + l.val, by omega⟩) := by
  unfold iblk
  blk_ext [idx t]

/-- The first 128 columns of the weight block are the activator's weights. -/
theorem weight_block_left (t : Fin cfg0.N) (o k : Fin 128) :
    (iblk m c 1 t : Vec Ideal S128x256 .f32) (ix2 o ⟨k.val, by omega⟩)
      = (m (c, Proc.devRef .tc main_arg1) : FVec Ideal S128x128 .f32) (ix2 o k) := by
  refine Eq.trans ?_ (weights_at_left m c o k)
  unfold iblk
  blk_ext [idx t]

/-- The last 128 columns of the weight block are the carry's weights. -/
theorem weight_block_right (t : Fin cfg0.N) (o k : Fin 128) :
    (iblk m c 1 t : Vec Ideal S128x256 .f32) (ix2 o ⟨128 + k.val, by omega⟩)
      = (m (c, Proc.devRef .tc main_arg3) : FVec Ideal S128x128 .f32) (ix2 o k) := by
  refine Eq.trans ?_ (weights_at_right m c o k)
  unfold iblk
  blk_ext [idx t]

/-- The first bias block is the activator's bias. -/
theorem bias_block_left (t : Fin cfg0.N) (o : Fin 128) :
    (iblk m c 2 t : Vec Ideal S128x1 .f32) (ix2 o 0) = (m (c, Proc.devRef .tc main_arg2) : FVec Ideal S128 .f32) (ix1 o) := by
  refine Eq.trans ?_ (bias_left_at m c o)
  unfold iblk
  blk_ext [idx t]

/-- The second bias block is the carry's bias. -/
theorem bias_block_right (t : Fin cfg0.N) (o : Fin 128) :
    (iblk m c 3 t : Vec Ideal S128x1 .f32) (ix2 o 0) = (m (c, Proc.devRef .tc main_arg4) : FVec Ideal S128 .f32) (ix1 o) := by
  refine Eq.trans ?_ (bias_right_at m c o)
  unfold iblk
  blk_ext [idx t]

/-- On an even lane the laid-out output is the activator's, from the lane's own column of the data. -/
theorem flat_even (b : Fin 8) (o : Fin 128) (n : Fin 131072) (hn : n.val % 2 = 0) :
    flat m c (ix3 b o n) = Layer.activator (m (c, Proc.devRef .tc main_arg1)) (m (c, Proc.devRef .tc main_arg2))
      (fun k => (V m c main_v0 : FVec Ideal S8x128x131072 .f32) (ix3 b k n)) o := by
  have hk : (⟨n.val % 2, by omega⟩ : Fin 2) = 0 := Fin.ext hn
  refine (if_pos hk).trans ?_
  refine congrArg (fun a => Layer.activator _ _ a o) (funext fun k => ?_)
  refine ((data_at m c b k n).trans ?_).symm
  rw [hk]
  rfl

/-- On an odd lane the laid-out output is the carry's, from the lane's own column of the data and its left neighbour. -/
theorem flat_odd (b : Fin 8) (o : Fin 128) (n n' : Fin 131072) (hn : n.val % 2 = 1) (hn' : n'.val + 1 = n.val) :
    flat m c (ix3 b o n) = Layer.carry (m (c, Proc.devRef .tc main_arg3)) (m (c, Proc.devRef .tc main_arg4))
      (fun k => (V m c main_v0 : FVec Ideal S8x128x131072 .f32) (ix3 b k n'))
      (fun k => (V m c main_v0 : FVec Ideal S8x128x131072 .f32) (ix3 b k n)) o := by
  have hk : (⟨n.val % 2, by omega⟩ : Fin 2) = 1 := Fin.ext hn
  have hk' : (⟨n'.val % 2, by omega⟩ : Fin 2) = 0 := Fin.ext (by simp only [Fin.val_zero]; omega)
  have hrow : n'.val / 512 = n.val / 512 := by omega
  have hpix : n'.val / 2 % 256 = n.val / 2 % 256 := by omega
  have hne : ¬ (⟨n.val % 2, by omega⟩ : Fin 2) = 0 := by rw [hk]; decide
  refine (if_neg hne).trans ?_
  refine congrArg₂ (fun a y => Layer.carry _ _ a y o) (funext fun k => ?_) (funext fun k => ?_)
  · refine ((data_at m c b k n').trans ?_).symm
    simp only [hk', hrow, hpix]
    rfl
  · refine ((data_at m c b k n).trans ?_).symm
    rw [hk]
    rfl

/-- The block stored at grid point `t` is the layer's output there. -/
theorem point (t : Fin cfg0.N) (z : Fin 1) (o : Fin 128) (l : Fin 8192) :
    k0_pay1 (k0_pay2 (iblk m c 1 t) (iblk m c 2 t) (iblk m c 3 t) (iblk m c 0 t)) (ix3 z o l)
      = flat m c (ix3 ⟨t.val / 16, by have := t.isLt; have : cfg0.N = 128 := N_0; omega⟩ o
          ⟨t.val % 16 * 8192 + l.val, by omega⟩) := by
  obtain rfl : z = 0 := Subsingleton.elim _ _
  rcases Nat.mod_two_eq_zero_or_one l.val with hl | hl
  · rw [flat_even m c _ o _ (by show (t.val % 16 * 8192 + l.val) % 2 = 0; omega)]
    refine (Block.even_lane _ _ _ _ o l hl).trans ?_
    simp only [weight_block_left, bias_block_left, data_block, Layer.activator]
  · rw [flat_odd m c _ o _ ⟨t.val % 16 * 8192 + (l.val - 1), by omega⟩
      (by show (t.val % 16 * 8192 + l.val) % 2 = 1; omega)
      (by show t.val % 16 * 8192 + (l.val - 1) + 1 = t.val % 16 * 8192 + l.val; omega)]
    refine (Block.odd_lane _ _ _ _ o l hl).trans ?_
    simp only [weight_block_right, bias_block_right, data_block, Layer.carry]

/-- The kernel's output array, when the region has run, is the layer's output. -/
theorem final : (dats (F := Ideal) m 0 c).arrAt 4 cfg0.N = flat m c := by
  refine (dats (F := Ideal) m 0 c).arrAt_eq_of_covers 4 _ (by decide +kernel) fun t _ y => ?_
  blk_simp
  rw [after0_4]
  frame_out
  idx_vars y
  refine (point m c t _ _ _).trans ?_
  refine congrArg (flat m c) ?_
  blk_ext [idx t]

end Cert.KernelIdeal.Array

end
-- ==== Proof.Run.lean ====
/- The kernel's run: the array the region leaves, reshaped by the line after it, is the layer's output. -/
module

public import proofs.«01_k».proof.Proof.Array

@[expose] public section

set_option maxRecDepth 16384

noncomputable section

namespace Cert.KernelIdeal.Array

open Idealize.ShloMosaic Idealize.ShloMosaic.TcCoe Idealize.SL.Sem Cert.KernelIdeal Cert.KernelIdeal.Gen

variable (m : (ℓ : Loc nD τ sig) → Buf (Elt Ideal) ℓ) (c : Dev nD)

/-- The kernel's result: the region's output array with its last axis split into image row, pixel and branch. -/
def result : FVec Ideal S8x128x256x256x2 .f32 :=
  shapeCast S8x128x256x256x2 (flat m c) shapeCasts_S8x128x131072_S8x128x256x256x2

/-- The kernel's result is the layer's output, element by element. -/
theorem result_apply (b : Fin 8) (o : Fin 128) (h w : Fin 256) (k : Fin 2) :
    result m c (ix5 b o h w k) = layer m c b o h w k := by
  pointwise [result]
  show layer m c b o _ _ _ = layer m c b o h w k
  congr 1
  · exact Fin.ext (by show (h.val * 512 + w.val * 2 + k.val) / 512 = h.val; omega)
  · exact Fin.ext (by show (h.val * 512 + w.val * 2 + k.val) / 2 % 256 = w.val; omega)
  · exact Fin.ext (by show (h.val * 512 + w.val * 2 + k.val) % 2 = k.val; omega)

/-- The result buffer after the line that follows the region. -/
theorem tail : Pipeline.afterTail₀ cfgs (dats (F := Ideal) m) 0 (V0 m) [hostOps1] c main_v5 = result m c := by
  unfold Pipeline.afterTail₀
  simp only [hostOps1, List.flatten_cons, List.flatten_nil, List.append_nil]
  after_results
  have harr : Pipeline.withArrays (cfgs 0).spec c (V0 m c)
      (fun w => (dats (F := Ideal) m 0 c).arrAt w (cfgs 0).N) (Proc.devRef .tc main_v4) = flat m c :=
    (Pipeline.withArrays_arr _ launch0.win.arr_inj c (V0 m c) _ 4).trans (final m c)
  rw [harr]
  rfl

/-- The kernel's run: it ends with its result array at `result`, and the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v5) = result m c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4) :=
  (θ_run defs _ _).mono (fun _ h c =>
    ⟨((h.1 c).2 main_v5 (Pipeline.mem_restRefs_of main_v5 (by decide) (by decide))).trans (tail m c), h.2 c⟩)
    (θ_run_and (run_main m ρ) (unchanged m ρ))

end Cert.KernelIdeal.Array

end
-- ==== Proof.RefValue.lean ====
/- What the reference computes: its composed host operations, read at one element, are the layer. -/
module

public import proofs.«01_k».proof.Proof.Gen.ReferenceIdeal.Run
public import proofs.«01_k».proof.Proof.Layer

@[expose] public section

set_option maxRecDepth 16384

noncomputable section

namespace Cert.ReferenceIdeal.RefValue

open Cert.ReferenceIdeal Cert.ReferenceIdeal.Gen Idealize.ShloMosaic Idealize.ShloMosaic.TcCoe Idealize.SL.Sem

/-- The activator plane of the data: branch 0, its axis dropped. -/
def plane0 (x : FVec Ideal S8x128x256x256x2 .f32) : FVec Ideal S8x128x256x256 .f32 :=
  shapeCast _ (extractStridedSlice S8x128x256x256x1 ![0, 0, 0, 0, 0] x slices_S8x128x256x256x2_S8x128x256x256x1_0_0_0_0_0)
    shapeCasts_S8x128x256x256x1_S8x128x256x256

/-- The carry plane of the data: branch 1, its axis dropped. -/
def plane1 (x : FVec Ideal S8x128x256x256x2 .f32) : FVec Ideal S8x128x256x256 .f32 :=
  shapeCast _ (extractStridedSlice S8x128x256x256x1 ![0, 0, 0, 0, 1] x slices_S8x128x256x256x2_S8x128x256x256x1_0_0_0_0_1)
    shapeCasts_S8x128x256x256x1_S8x128x256x256

/-- A plane with a last axis of length one. -/
def column (a : FVec Ideal S8x128x256x256 .f32) : FVec Ideal S8x128x256x256x1 .f32 :=
  broadcastInDim S8x128x256x256x1 ![0, 1, 2, 3] bcast_S8x128x256x256_S8x128x256x256x1_0_1_2_3 a

/-- A plane summed over a last axis of length one. -/
def total (a : FVec Ideal S8x128x256x256x1 .f32) : FVec Ideal S8x128x256x256 .f32 :=
  Host.reduceAdd a (constant S_ .f32 0x00000000#32) reducesTo_S8x128x256x256x1_S8x128x256x256_d4 h_S_

/-- The number `1e-6` at every element of a plane. -/
def smallPlane : FVec Ideal S8x128x256x256 .f32 :=
  broadcastInDim S8x128x256x256 ![] bcast_S_S8x128x256x256 (constant S_ .f32 0x358637BD#32)

/-- The quotient of the two planes' product and the activator's magnitude. -/
def quotient (x : FVec Ideal S8x128x256x256x2 .f32) : FVec Ideal S8x128x256x256 .f32 :=
  Host.divf (total (mulf (column (plane0 x)) (column (plane1 x))))
    (addf (total (Host.absf (column (plane0 x)))) smallPlane)

/-- A 1×1 convolution of a plane with its bias. -/
def convolution (w : FVec Ideal S128x128 .f32) (b : FVec Ideal S128 .f32) (a : FVec Ideal S8x128x256x256 .f32) :
    FVec Ideal S8x128x256x256 .f32 :=
  addf (transpose S8x128x256x256 [1, 0, 2, 3]
      (Host.dotGeneral dot_S128x128_S8x128x256x256_S128x8x256x256_1_1_0_023_n_n none w a)
      transposes_S128x8x256x256_S8x128x256x256_1_0_2_3)
    (broadcastInDim S8x128x256x256 ![0, 1, 2, 3] bcast_S1x128x1x1_S8x128x256x256_0_1_2_3
      (broadcastInDim S1x128x1x1 ![1] bcast_S128_S1x128x1x1_1 b))

/-- A plane cut off below zero. -/
def cutoff (a : FVec Ideal S8x128x256x256 .f32) : FVec Ideal S8x128x256x256 .f32 :=
  maximumf a (broadcastInDim S8x128x256x256 ![] bcast_S_S8x128x256x256 (constant S_ .f32 0x00000000#32))

/-- The reference's result: the two branches side by side on the last axis. -/
def result (x : FVec Ideal S8x128x256x256x2 .f32) (wx : FVec Ideal S128x128 .f32) (bx : FVec Ideal S128 .f32)
    (wy : FVec Ideal S128x128 .f32) (yb : FVec Ideal S128 .f32) : FVec Ideal S8x128x256x256x2 .f32 :=
  concatenate S8x128x256x256x2 4
    [⟨S8x128x256x256x1, column (cutoff (convolution wx bx (plane0 x)))⟩,
      ⟨S8x128x256x256x1, column (convolution wy yb (quotient x))⟩]
    concatenates_S8x128x256x256x1_S8x128x256x256x1_S8x128x256x256x2_d4

/-- The reference computes the layer, element by element. -/
theorem result_apply (x : FVec Ideal S8x128x256x256x2 .f32) (wx : FVec Ideal S128x128 .f32) (bx : FVec Ideal S128 .f32)
    (wy : FVec Ideal S128x128 .f32) (yb : FVec Ideal S128 .f32) (b : Fin 8) (o : Fin 128) (h w : Fin 256) (k : Fin 2) :
    result x wx bx wy yb (ix5 b o h w k) = Layer.out x wx bx wy yb b o h w k := by
  pointwise [result, column, cutoff, convolution, quotient, total, smallPlane, plane0, plane1]
  have hk : (k.val < 1) = (k = 0) := by rw [Fin.ext_iff, Fin.val_zero, Nat.lt_one_iff]
  simp only [Layer.out, Layer.activator, Layer.carry, Layer.derived, Layer.eps, hk, Finset.univ_unique,
    Finset.sum_singleton, dite_eq_ite]

/-- The reference's run: it ends with its result array at `result` of the arguments, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v26)
          = result (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4) :=
  Value.run (F := Ideal) m ρ

end Cert.ReferenceIdeal.RefValue

end
-- ==== Proof.lean ====
module

public import proofs.«01_k».proof.Defs
public import proofs.«01_k».proof.Proof.Run
public import proofs.«01_k».proof.Proof.RefValue
public import proofs.«01_k».proof.Proof.Gen.ReferenceIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- On equal arguments the reference's result is the kernel's: both are the layer's output, element by element. -/
theorem results_agree (m : (ℓ : Loc Cert.KernelIdeal.nD Cert.KernelIdeal.τ Cert.KernelIdeal.sig) → Buf (Elt Ideal) ℓ)
    (c : Dev Cert.KernelIdeal.nD) :
    Cert.ReferenceIdeal.RefValue.result (m (c, Proc.devRef .tc Cert.KernelIdeal.main_arg0))
        (m (c, Proc.devRef .tc Cert.KernelIdeal.main_arg1)) (m (c, Proc.devRef .tc Cert.KernelIdeal.main_arg2))
        (m (c, Proc.devRef .tc Cert.KernelIdeal.main_arg3)) (m (c, Proc.devRef .tc Cert.KernelIdeal.main_arg4))
      = Cert.KernelIdeal.Array.result m c := by
  funext j
  idx_vars j
  exact (Cert.ReferenceIdeal.RefValue.result_apply _ _ _ _ _ _ _ _ _ _).trans
    (Cert.KernelIdeal.Array.result_apply m c _ _ _ _ _).symm

/-- The reference runs, leaves its arguments unchanged and ends with every counter at zero. -/
theorem reference_frame : Cert.quiescent_ReferenceIdeal (hReferenceIdeal := Cert.ReferenceIdeal.Gen.facts) := fun m g _ =>
  (θ_run Cert.ReferenceIdeal.defs _ _).mono
    (fun r h => ⟨fun c => (h c).2, Idealize.ShloMosaic.sem_eq_zero_of_no_sems (by decide) r.2⟩)
    (Cert.ReferenceIdeal.RefValue.run m g)

/-- Kernel and reference, from equal arguments, both run and end with equal results and unchanged arguments. -/
theorem kernel_eq_reference : Cert.algebraic_KernelIdeal_ReferenceIdeal (hKernelIdeal := Cert.KernelIdeal.Gen.facts)
    (hReferenceIdeal := Cert.ReferenceIdeal.Gen.facts) := by
  intro m g m' g' _ hagree
  refine ⟨fun c => Cert.KernelIdeal.Array.result m c, Cert.KernelIdeal.Array.run m g, ?_⟩
  refine (θ_run Cert.ReferenceIdeal.defs _ _).mono (fun r h c => ⟨(h c).1.trans ?_, (h c).2⟩)
    (Cert.ReferenceIdeal.RefValue.run m' g')
  obtain ⟨h0, h1, h2, h3, h4⟩ := hagree c
  rw [h0, h1, h2, h3, h4]
  exact results_agree m c

/-- Everything claimed: the three programs' frames, the idealization, and the equality of kernel and reference. -/
theorem claim : Cert.Claim :=
  ⟨Cert.Kernel.Gen.facts, Cert.KernelIdeal.Gen.facts, Cert.ReferenceIdeal.Gen.facts,
    fun m g _ => Cert.Kernel.Gen.frame m g, fun m g _ => Cert.KernelIdeal.Gen.frame m g, reference_frame, trivial,
    kernel_eq_reference⟩

end Cert.Proof

end
